-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2560 : Shape := ⟨3, ![1, 8192, 2560]⟩
abbrev S1x8192x1 : Shape := ⟨3, ![1, 8192, 1]⟩
abbrev S10240x2560 : Shape := ⟨2, ![10240, 2560]⟩
abbrev S10240 : Shape := ⟨1, ![10240]⟩
abbrev S8192x2560 : Shape := ⟨2, ![8192, 2560]⟩
abbrev S8192x1 : Shape := ⟨2, ![8192, 1]⟩
abbrev S1x10240 : Shape := ⟨2, ![1, 10240]⟩
abbrev S8192x10240 : Shape := ⟨2, ![8192, 10240]⟩
abbrev S2048x2560 : Shape := ⟨2, ![2048, 2560]⟩
abbrev S2048x1 : Shape := ⟨2, ![2048, 1]⟩
abbrev S2560x2560 : Shape := ⟨2, ![2560, 2560]⟩
abbrev S1x2560 : Shape := ⟨2, ![1, 2560]⟩
abbrev S512x2560 : Shape := ⟨2, ![512, 2560]⟩
abbrev S512x512 : Shape := ⟨2, ![512, 512]⟩
abbrev S512x1 : Shape := ⟨2, ![512, 1]⟩
abbrev S1x512 : Shape := ⟨2, ![1, 512]⟩
abbrev S1x8192x10240 : Shape := ⟨3, ![1, 8192, 10240]⟩

abbrev nBuf : Space → Nat
  | .hbm => 11
  | .vmem => 12
  | .smem => 0
  | _ => 0

abbrev bufTy : (tb : Table) → Fin (tcTables nBuf tb) → BufTy
  | .hbm, ⟨0, _⟩ => ⟨S1x8192x2560, .fp8e4m3⟩
  | .hbm, ⟨1, _⟩ => ⟨S1x8192x1, .f32⟩
  | .hbm, ⟨2, _⟩ => ⟨S10240x2560, .fp8e4m3⟩
  | .hbm, ⟨3, _⟩ => ⟨S10240, .f32⟩
  | .hbm, ⟨4, _⟩ => ⟨S10240, .f32⟩
  | .hbm, ⟨5, _⟩ => ⟨S8192x2560, .fp8e4m3⟩
  | .hbm, ⟨6, _⟩ => ⟨S8192x1, .f32⟩
  | .hbm, ⟨7, _⟩ => ⟨S1x10240, .f32⟩
  | .hbm, ⟨8, _⟩ => ⟨S1x10240, .f32⟩
  | .hbm, ⟨9, _⟩ => ⟨S8192x10240, .bf16⟩
  | .hbm, ⟨10, _⟩ => ⟨S1x8192x10240, .bf16⟩
  | .local _ .vmem, ⟨0, _⟩ => ⟨S2048x2560, .fp8e4m3⟩
  | .local _ .vmem, ⟨1, _⟩ => ⟨S2048x2560, .fp8e4m3⟩
  | .local _ .vmem, ⟨2, _⟩ => ⟨S2048x1, .f32⟩
  | .local _ .vmem, ⟨3, _⟩ => ⟨S2048x1, .f32⟩
  | .local _ .vmem, ⟨4, _⟩ => ⟨S2560x2560, .fp8e4m3⟩
  | .local _ .vmem, ⟨5, _⟩ => ⟨S2560x2560, .fp8e4m3⟩
  | .local _ .vmem, ⟨6, _⟩ => ⟨S1x2560, .f32⟩
  | .local _ .vmem, ⟨7, _⟩ => ⟨S1x2560, .f32⟩
  | .local _ .vmem, ⟨8, _⟩ => ⟨S1x2560, .f32⟩
  | .local _ .vmem, ⟨9, _⟩ => ⟨S1x2560, .f32⟩
  | .local _ .vmem, ⟨10, _⟩ => ⟨S2048x2560, .bf16⟩
  | .local _ .vmem, ⟨11, _⟩ => ⟨S2048x2560, .bf16⟩
  | _, _ => ⟨S1x8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2560x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1x8192x2560 : Shape := ⟨3, ![1, 8192, 2560]⟩
abbrev S1x8192x1 : Shape := ⟨3, ![1, 8192, 1]⟩
abbrev S10240x2560 : Shape := ⟨2, ![10240, 2560]⟩
abbrev S10240 : Shape := ⟨1, ![10240]⟩
abbrev S8192x2560 : Shape := ⟨2, ![8192, 2560]⟩
abbrev S8192x1 : Shape := ⟨2, ![8192, 1]⟩
abbrev S1x10240 : Shape := ⟨2, ![1, 10240]⟩
abbrev S8192x10240 : Shape := ⟨2, ![8192, 10240]⟩
abbrev S1x8192x10240 : Shape := ⟨3, ![1, 8192, 10240]⟩

abbrev nBuf : Space → Nat
  | .hbm => 11
  | .vmem => 6
  | .smem => 0
  | _ => 0

abbrev bufTy : (tb : Table) → Fin (tcTables nBuf tb) → BufTy
  | .hbm, ⟨0, _⟩ => ⟨S1x8192x2560, .fp8e4m3⟩
  | .hbm, ⟨1, _⟩ => ⟨S1x8192x1, .f32⟩
  | .hbm, ⟨2, _⟩ => ⟨S10240x2560, .fp8e4m3⟩
  | .hbm, ⟨3, _⟩ => ⟨S10240, .f32⟩
  | .hbm, ⟨4, _⟩ => ⟨S10240, .f32⟩
  | .hbm, ⟨5, _⟩ => ⟨S8192x2560, .fp8e4m3⟩
  | .hbm, ⟨6, _⟩ => ⟨S8192x1, .f32⟩
  | .hbm, ⟨7, _⟩ => ⟨S1x10240, .f32⟩
  | .hbm, ⟨8, _⟩ => ⟨S1x10240, .f32⟩
  | .hbm, ⟨9, _⟩ => ⟨S8192x10240, .bf16⟩
  | .hbm, ⟨10, _⟩ => ⟨S1x8192x10240, .bf16⟩
  | .local _ .vmem, ⟨0, _⟩ => ⟨S8192x2560, .fp8e4m3⟩
  | .local _ .vmem, ⟨1, _⟩ => ⟨S8192x1, .f32⟩
  | .local _ .vmem, ⟨2, _⟩ => ⟨S10240x2560, .fp8e4m3⟩
  | .local _ .vmem, ⟨3, _⟩ => ⟨S1x10240, .f32⟩
  | .local _ .vmem, ⟨4, _⟩ => ⟨S1x10240, .f32⟩
  | .local _ .vmem, ⟨5, _⟩ => ⟨S8192x10240, .bf16⟩
  | _, _ => ⟨S1x8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x10240 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Linear.lean ====
/-
  THE SCALED LINEAR LAYER, for any extents, over the extended reals: the function `lin` that both programs compute, the
  vector operations `ops` that one tile of the kernel and the whole reference print, and the theorem that the operations
  are the function. Then `layer`, the same function of the arguments as they are passed, and the re-layings of the arguments
  that lead from one to the other. Nothing here depends on either program.
-/
module

public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.Linear

open Idealize.ShloMosaic Idealize.ShloMosaic.ValueIdx
open scoped BigOperators

variable {M N K : ℕ}

/-- The scaled linear layer. Entry `(r, c)` is `(Σ_k x[r,k] · w[c,k]) · xs[r] · ws[c] + b[c]`: the product of the
    quantized activations with the transposed quantized weights, times the row's scale, times the column's scale, plus
    the column's bias. -/
def lin (x : FVec Ideal ⟨2, ![M, K]⟩ .fp8e4m3) (w : FVec Ideal ⟨2, ![N, K]⟩ .fp8e4m3) (xs : FVec Ideal ⟨2, ![M, 1]⟩ .f32)
    (ws b : FVec Ideal ⟨2, ![1, N]⟩ .f32) : FVec Ideal ⟨2, ![M, N]⟩ .bf16 := fun i =>
  ((∑ k : Fin K, x (ix2 (i 0) k) * w (ix2 (i 1) k) : EReal) * xs (ix2 (i 0) 0) * ws (ix2 0 (i 1)) + b (ix2 0 (i 1)) : EReal)

/-- The vector operations that both programs print for it: a matmul onto a zero accumulator with the second operand
    transposed, a multiplication by the row scales broadcast along the columns, one by the column scales broadcast along
    the rows, the addition of the bias broadcast along the rows, and the narrowing to bf16. -/
def ops (x : FVec Ideal ⟨2, ![M, K]⟩ .fp8e4m3) (w : FVec Ideal ⟨2, ![N, K]⟩ .fp8e4m3) (xs : FVec Ideal ⟨2, ![M, 1]⟩ .f32)
    (ws b : FVec Ideal ⟨2, ![1, N]⟩ .f32)
    (hx : (⟨2, ![M, K]⟩ : Shape).ShapeCasts ⟨2, ![M, K]⟩) (hxs : (⟨2, ![M, 1]⟩ : Shape).ShapeCasts ⟨2, ![M, 1]⟩)
    (hws hb : (⟨2, ![1, N]⟩ : Shape).ShapeCasts ⟨2, ![1, N]⟩)
    (bxs : (⟨2, ![M, 1]⟩ : Shape).Broadcasts ⟨2, ![M, N]⟩) (bws bb : (⟨2, ![1, N]⟩ : Shape).Broadcasts ⟨2, ![M, N]⟩)
    (hbits : FTy.bits .bf16 < FTy.bits .f32) : FVec Ideal ⟨2, ![M, N]⟩ .bf16 :=
  truncf .bf16 (addf (mulf (mulf
    (matmul (DotDims.transposedRhs M K N) none (shapeCast ⟨2, ![M, K]⟩ x hx) w (constant ⟨2, ![M, N]⟩ .f32 0x00000000#32))
    (broadcastTo ⟨2, ![M, N]⟩ (shapeCast ⟨2, ![M, 1]⟩ xs hxs) bxs))
    (broadcastTo ⟨2, ![M, N]⟩ (shapeCast ⟨2, ![1, N]⟩ ws hws) bws))
    (broadcastTo ⟨2, ![M, N]⟩ (shapeCast ⟨2, ![1, N]⟩ b hb) bb)) hbits

/-- A column `[M, 1]` broadcast along the columns reads, at `(r, c)`, its entry `r`. -/
theorem bcol (v : FVec Ideal ⟨2, ![M, 1]⟩ .f32) (h : (⟨2, ![M, 1]⟩ : Shape).Broadcasts ⟨2, ![M, N]⟩) (r : Fin M) (c : Fin N) :
    broadcastTo ⟨2, ![M, N]⟩ v h (ix2 r c) = v (ix2 r 0) :=
  broadcastTo_apply v h (ix2 r c) (ix2 r 0) fun a => by
    match a with
    | ⟨0, _⟩ =>
      show r.val = if M = 1 then 0 else r.val
      split
      · have := r.isLt; omega
      · rfl
    | ⟨1, _⟩ => rfl

/-- A row `[1, N]` broadcast along the rows reads, at `(r, c)`, its entry `c`. -/
theorem brow (v : FVec Ideal ⟨2, ![1, N]⟩ .f32) (h : (⟨2, ![1, N]⟩ : Shape).Broadcasts ⟨2, ![M, N]⟩) (r : Fin M) (c : Fin N) :
    broadcastTo ⟨2, ![M, N]⟩ v h (ix2 r c) = v (ix2 0 c) :=
  broadcastTo_apply v h (ix2 r c) (ix2 0 c) fun a => by
    match a with
    | ⟨0, _⟩ => rfl
    | ⟨1, _⟩ =>
      show c.val = if N = 1 then 0 else c.val
      split
      · have := c.isLt; omega
      · rfl

/-- The printed operations compute the scaled linear layer, at every entry. -/
theorem ops_eq (x : FVec Ideal ⟨2, ![M, K]⟩ .fp8e4m3) (w : FVec Ideal ⟨2, ![N, K]⟩ .fp8e4m3) (xs : FVec Ideal ⟨2, ![M, 1]⟩ .f32)
    (ws b : FVec Ideal ⟨2, ![1, N]⟩ .f32) (hx hxs hws hb bxs bws bb hbits) :
    ops x w xs ws b hx hxs hws hb bxs bws bb hbits = lin x w xs ws b := by
  funext i
  obtain ⟨r, c, rfl⟩ : ∃ r c, i = ix2 r c := ⟨i 0, i 1, eq_ix2 i⟩
  unfold ops
  rw [shapeCast_self, shapeCast_self, shapeCast_self, shapeCast_self]
  rw [truncf_apply, addf_apply, mulf_apply, mulf_apply, bcol, brow, brow]
  have h := Ideal.matmul_transposedRhs_apply none x w (constant ⟨2, ![M, N]⟩ .f32 0x00000000#32) r c
  have hz : (constant ⟨2, ![M, N]⟩ .f32 0x00000000#32 : FVec Ideal ⟨2, ![M, N]⟩ .f32) (ix2 r c) = (0 : EReal) := Ideal.ofBits_zero_f32
  rw [hz, zero_add] at h
  show (matmul (DotDims.transposedRhs M K N) none x w _ (ix2 r c) : EReal) * _ * _ + _ = _
  rw [show matmul (DotDims.transposedRhs M K N) none x w (constant ⟨2, ![M, N]⟩ .f32 0x00000000#32) (ix2 r c) = _ from h]
  rfl

/-- One entry of the layer depends only on one row of `x`, one row of `w`, one entry of each scale and one entry of the
    bias: where those agree between two sets of operands (a block's or a tile's and the whole arrays'), the entries
    agree. -/
theorem lin_congr {M' N' : ℕ} (x : FVec Ideal ⟨2, ![M, K]⟩ .fp8e4m3) (w : FVec Ideal ⟨2, ![N, K]⟩ .fp8e4m3)
    (xs : FVec Ideal ⟨2, ![M, 1]⟩ .f32) (ws b : FVec Ideal ⟨2, ![1, N]⟩ .f32)
    (x' : FVec Ideal ⟨2, ![M', K]⟩ .fp8e4m3) (w' : FVec Ideal ⟨2, ![N', K]⟩ .fp8e4m3)
    (xs' : FVec Ideal ⟨2, ![M', 1]⟩ .f32) (ws' b' : FVec Ideal ⟨2, ![1, N']⟩ .f32)
    (i : (⟨2, ![M, N]⟩ : Shape).Idx) (i' : (⟨2, ![M', N']⟩ : Shape).Idx)
    (hx : ∀ k : Fin K, x (ix2 (i 0) k) = x' (ix2 (i' 0) k)) (hw : ∀ k : Fin K, w (ix2 (i 1) k) = w' (ix2 (i' 1) k))
    (hxs : xs (ix2 (i 0) 0) = xs' (ix2 (i' 0) 0)) (hws : ws (ix2 0 (i 1)) = ws' (ix2 0 (i' 1)))
    (hb : b (ix2 0 (i 1)) = b' (ix2 0 (i' 1))) :
    lin x w xs ws b i = lin x' w' xs' ws' b' i' := by
  unfold lin
  rw [hxs, hws, hb]
  have hsum : (∑ k : Fin K, x (ix2 (i 0) k) * w (ix2 (i 1) k) : EReal) = ∑ k : Fin K, x' (ix2 (i' 0) k) * w' (ix2 (i' 1) k) :=
    Finset.sum_congr rfl fun k _ => by rw [hx k, hw k]
  rw [hsum]

/-! ## The layer as a function of the arguments as they are passed -/

/-- The scaled linear layer of a batch of one: activations `[1, M, K]`, row scales `[1, M, 1]`, weights `[N, K]`, column
    scales `[N]`, bias `[N]`. Entry `(0, r, c)` is `(Σ_k x[0,r,k] · w[c,k]) · xs[0,r,0] · ws[c] + b[c]`. -/
def layer (x : FVec Ideal ⟨3, ![1, M, K]⟩ .fp8e4m3) (xs : FVec Ideal ⟨3, ![1, M, 1]⟩ .f32)
    (w : FVec Ideal ⟨2, ![N, K]⟩ .fp8e4m3) (ws b : FVec Ideal ⟨1, ![N]⟩ .f32) : FVec Ideal ⟨3, ![1, M, N]⟩ .bf16 := fun i =>
  ((∑ k : Fin K, x (ix3 (0 : Fin 1) (i 1) k) * w (ix2 (i 2) k) : EReal) * xs (ix3 (0 : Fin 1) (i 1) (0 : Fin 1)) * ws (ix1 (i 2))
    + b (ix1 (i 2)) : EReal)

/-- A vector `[N]` reshaped to a row `[1, N]` reads, at `(0, c)`, its entry `c`. -/
theorem row_reshape (v : FVec Ideal ⟨1, ![N]⟩ .f32) (h : (⟨1, ![N]⟩ : Shape).ShapeCasts ⟨2, ![1, N]⟩) (c : Fin N) :
    shapeCast ⟨2, ![1, N]⟩ v h (ix2 (0 : Fin 1) c) = v (ix1 c) :=
  shapeCast_apply v h _ _ (by
    rw [Shape.rowMajor_val_one, Shape.rowMajor_val_two]
    show c.val = 0 * N + c.val
    rw [Nat.zero_mul, Nat.zero_add])

/-- A vector `[N]` broadcast to a row `[1, N]` reads, at `(0, c)`, its entry `c`. -/
theorem row_broadcast (v : FVec Ideal ⟨1, ![N]⟩ .f32) (h : (⟨1, ![N]⟩ : Shape).BroadcastsInDim ⟨2, ![1, N]⟩ ![1]) (c : Fin N) :
    broadcastInDim ⟨2, ![1, N]⟩ ![1] h v (ix2 (0 : Fin 1) c) = v (ix1 c) :=
  broadcastInDim_apply _ h v _ _ fun a => by
    match a with
    | ⟨0, _⟩ =>
      show c.val = if N = 1 then 0 else c.val
      split
      · have := c.isLt; omega
      · rfl

/-- The layer of operands with the batch axis dropped and with the column scales and the bias laid out as rows — whatever
    operation laid them out —, with the batch axis added back to its result, is the layer of the arguments. -/
theorem lin_eq_layer (x : FVec Ideal ⟨3, ![1, M, K]⟩ .fp8e4m3) (xs : FVec Ideal ⟨3, ![1, M, 1]⟩ .f32)
    (w : FVec Ideal ⟨2, ![N, K]⟩ .fp8e4m3) (ws b : FVec Ideal ⟨1, ![N]⟩ .f32)
    (hx : (⟨3, ![1, M, K]⟩ : Shape).ShapeCasts ⟨2, ![M, K]⟩) (hxs : (⟨3, ![1, M, 1]⟩ : Shape).ShapeCasts ⟨2, ![M, 1]⟩)
    (ho : (⟨2, ![M, N]⟩ : Shape).ShapeCasts ⟨3, ![1, M, N]⟩) (ws' b' : FVec Ideal ⟨2, ![1, N]⟩ .f32) (hws : ∀ c : Fin N, ws' (ix2 (0 : Fin 1) c) = ws (ix1 c))
    (hb : ∀ c : Fin N, b' (ix2 (0 : Fin 1) c) = b (ix1 c)) :
    shapeCast ⟨3, ![1, M, N]⟩ (lin (shapeCast ⟨2, ![M, K]⟩ x hx) w (shapeCast ⟨2, ![M, 1]⟩ xs hxs) ws' b') ho
      = layer x xs w ws b := by
  funext i
  obtain ⟨u, r, c, rfl⟩ : ∃ u r c, i = ix3 u r c := ⟨i 0, i 1, i 2, eq_ix3 i⟩
  rw [shapeCast_ab_1ab_apply]
  show ((∑ k : Fin K, shapeCast ⟨2, ![M, K]⟩ x hx (ix2 r k) * w (ix2 c k) : EReal)
      * shapeCast ⟨2, ![M, 1]⟩ xs hxs (ix2 r (0 : Fin 1)) * ws' (ix2 (0 : Fin 1) c) + b' (ix2 (0 : Fin 1) c) : EReal)
    = ((∑ k : Fin K, x (ix3 (0 : Fin 1) r k) * w (ix2 c k) : EReal) * xs (ix3 (0 : Fin 1) r (0 : Fin 1)) * ws (ix1 c) + b (ix1 c) : EReal)
  rw [shapeCast_1ab_ab_apply, hws, hb]
  have hsum : (∑ k : Fin K, shapeCast ⟨2, ![M, K]⟩ x hx (ix2 r k) * w (ix2 c k) : EReal)
      = ∑ k : Fin K, x (ix3 (0 : Fin 1) r k) * w (ix2 c k) :=
    Finset.sum_congr rfl fun k _ => by rw [shapeCast_1ab_ab_apply]
  rw [hsum]

end Cert.Linear

end
-- ==== Proof.KernelBlock.lean ====
/-
  WHAT ONE GRID POINT OF THE KERNEL COMPUTES, over the extended reals: its twenty stores of 512 × 512 tiles together leave
  the scaled linear layer of the point's five input blocks in the 2048 × 2560 output block.
-/
module

public import proofs.«01_k».proof.Proof.Gen.KernelIdeal.Frame
public import proofs.«01_k».proof.Proof.Linear

@[expose] public section

noncomputable section

namespace Cert.KernelIdeal.Lin

open Cert.KernelIdeal Cert.KernelIdeal.Gen Idealize.ShloMosaic Idealize.ShloMosaic.ValueIdx
open Cert.Linear

/-- The operations of one tile: the stored 512 × 512 value as a function of a row slice of the activations, a row slice
    of the weights and the matching slices of the two scales and of the bias. All twenty stores print this chain. -/
theorem pay_eq (x : FVec Ideal S512x2560 .fp8e4m3) (w : FVec Ideal S512x2560 .fp8e4m3) (xs : FVec Ideal S512x1 .f32)
    (ws b : FVec Ideal S1x512 .f32) : k0_pay3 (F := Ideal) x w xs ws b = lin x w xs ws b :=
  ops_eq x w xs ws b shapeCasts_S512x2560_S512x2560 shapeCasts_S512x1_S512x1 shapeCasts_S1x512_S1x512
    shapeCasts_S1x512_S1x512 broadcasts_S512x1_S512x512 broadcasts_S1x512_S512x512 broadcasts_S1x512_S512x512
    bitsLt_bf16_f32

/-- The tile at row offset `p` and column offset `q`: its operations on the slices of the blocks that start there are
    the layer of the whole blocks, read where the tile's entries sit in the output block. -/
theorem tile (p q : ℕ) (x : FVec Ideal S2048x2560 .fp8e4m3) (xs : FVec Ideal S2048x1 .f32)
    (w : FVec Ideal S2560x2560 .fp8e4m3) (ws b : FVec Ideal S1x2560 .f32)
    (hx : ∀ a, ![p, 0] a + S512x2560.size a ≤ S2048x2560.size a) (hxs : ∀ a, ![p, 0] a + S512x1.size a ≤ S2048x1.size a)
    (hw : ∀ a, ![q, 0] a + S512x2560.size a ≤ S2560x2560.size a) (hws : ∀ a, ![0, q] a + S1x512.size a ≤ S1x2560.size a)
    (ho : ∀ a, ![p, q] a + S512x512.size a ≤ S2048x2560.size a) (y : S512x512.Idx) :
    k0_pay3 (F := Ideal) (View.ld x (Rect.unit (s := S2048x2560) ![p, 0] S512x2560.size hx))
        (View.ld w (Rect.unit (s := S2560x2560) ![q, 0] S512x2560.size hw))
        (View.ld xs (Rect.unit (s := S2048x1) ![p, 0] S512x1.size hxs))
        (View.ld ws (Rect.unit (s := S1x2560) ![0, q] S1x512.size hws))
        (View.ld b (Rect.unit (s := S1x2560) ![0, q] S1x512.size hws)) y
      = lin x w xs ws b ((Rect.unit (s := S2048x2560) ![p, q] S512x512.size ho).emb y) := by
  rw [pay_eq]
  exact lin_congr _ _ _ _ _ x w xs ws b y _
    (fun k => congrArg x (Shape.idx_ext₂ (by simp [Rect.emb_apply]) (by simp [Rect.emb_apply])))
    (fun k => congrArg w (Shape.idx_ext₂ (by simp [Rect.emb_apply]) (by simp [Rect.emb_apply])))
    (congrArg xs (Shape.idx_ext₂ (by simp [Rect.emb_apply]) (by simp [Rect.emb_apply])))
    (congrArg ws (Shape.idx_ext₂ (by simp [Rect.emb_apply]) (by simp [Rect.emb_apply])))
    (congrArg b (Shape.idx_ext₂ (by simp [Rect.emb_apply]) (by simp [Rect.emb_apply])))

/-- The layer of a grid point's input blocks: what the point leaves in the output block. -/
theorem block (x : FVec Ideal S2048x2560 .fp8e4m3) (xs : FVec Ideal S2048x1 .f32) (w : FVec Ideal S2560x2560 .fp8e4m3)
    (ws b : FVec Ideal S1x2560 .f32) : out0_5 (F := Ideal) x xs w ws b = lin x w xs ws b := by
  funext y
  refine View.canon_apply_of_pieces (Val := Elt Ideal) (lin x w xs ws b) _ ?_ y (cover0_5 _ _ _ _ _ _ _ _ _ _ _ _ _ _ _ _ _ _ _ _ y)
  intro pc hpc z
  simp only [List.mem_cons, List.mem_nil_iff, or_false] at hpc
  rcases hpc with rfl | rfl | rfl | rfl | rfl | rfl | rfl | rfl | rfl | rfl | rfl | rfl | rfl | rfl | rfl | rfl | rfl | rfl | rfl | rfl
  all_goals exact tile _ _ x xs w ws b _ _ _ _ (by decide) z

end Cert.KernelIdeal.Lin

end
-- ==== Proof.KernelArray.lean ====
/-
  WHAT THE KERNEL'S RESULT ARRAY HOLDS AFTER THE RUN, over the extended reals: the sixteen grid points write back disjoint
  2048 × 2560 blocks that cover the 8192 × 10240 array, each block the scaled linear layer of its own input blocks, so the
  array holds the scaled linear layer of the whole operands.
-/
module

public import proofs.«01_k».proof.Proof.KernelBlock

@[expose] public section

noncomputable section

namespace Cert.KernelIdeal.Lin

open Cert.KernelIdeal Cert.KernelIdeal.Gen Idealize.ShloMosaic Idealize.ShloMosaic.ValueIdx Idealize.ShloMosaic.TcCoe
open Idealize.SL.Sem
open Idealize.ShloMosaic.Pipeline (Dat Window)
open Cert.Linear

variable (m : (ℓ : Loc nD τ sig) → Buf (Elt Ideal) ℓ)

/-- The layer of the operands that the kernel's windows read on device `c`. -/
def whole (c : Dev nD) : FVec Ideal S8192x10240 .bf16 :=
  lin (M := 8192) (N := 10240) (K := 2560) (V m c main_v0) (V m c main_arg2) (V m c main_v1) (V m c main_v2) (V m c main_v3)

/-- The index maps agree, at every grid point: the activations and the row scales move with the output's row block, the
    weights, the column scales and the bias with its column block, and every other block index is zero. -/
theorem idx (t : Fin cfg0.N) :
    win0_0.index t 0 = win0_5.index t 0 ∧ win0_0.index t 1 = 0 ∧ win0_1.index t 0 = win0_5.index t 0 ∧ win0_1.index t 1 = 0
      ∧ win0_2.index t 0 = win0_5.index t 1 ∧ win0_2.index t 1 = 0 ∧ win0_3.index t 0 = 0
      ∧ win0_3.index t 1 = win0_5.index t 1 ∧ win0_4.index t 0 = 0 ∧ win0_4.index t 1 = win0_5.index t 1 :=
  (by decide +kernel : ∀ t : Fin grid0.N,
    win0_0.index t 0 = win0_5.index t 0 ∧ win0_0.index t 1 = 0 ∧ win0_1.index t 0 = win0_5.index t 0 ∧ win0_1.index t 1 = 0
      ∧ win0_2.index t 0 = win0_5.index t 1 ∧ win0_2.index t 1 = 0 ∧ win0_3.index t 0 = 0
      ∧ win0_3.index t 1 = win0_5.index t 1 ∧ win0_4.index t 0 = 0 ∧ win0_4.index t 1 = win0_5.index t 1) t

/-- Every pair of a row block below 4 and a column block below 4 is the block index of some grid point. -/
theorem onto : ∀ i j : Fin 4, ∃ t : Fin cfg0.N, win0_5.index t 0 = i.val ∧ win0_5.index t 1 = j.val :=
  (by decide +kernel : ∀ i j : Fin 4, ∃ t : Fin grid0.N, win0_5.index t 0 = i.val ∧ win0_5.index t 1 = j.val)

/-- What grid point `t` writes back is block `t` of the layer of the whole operands. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  obtain ⟨h00, h01, h10, h11, h20, h21, h30, h31, h40, h41⟩ := idx t
  funext y
  show out0_5 (F := Ideal) (iblk m c 0 t) (iblk m c 1 t) (iblk m c 2 t) (iblk m c 3 t) (iblk m c 4 t) y
    = whole m c ((win0_5.rect t).emb y)
  rw [block]
  exact lin_congr (M := 2048) (N := 2560) _ _ _ _ _ _ _ _ _ _ y ((win0_5.rect t).emb y)
    (fun k => congrArg (V m c main_v0) (Shape.idx_ext₂
      ((win0_0.rect_emb_val t (ix2 (y 0) k) 0).trans (by rw [win0_5.rect_emb_val t y 0, h00]; rfl))
      ((win0_0.rect_emb_val t (ix2 (y 0) k) 1).trans (by rw [h01, Nat.zero_mul, Nat.zero_add]; rfl))))
    (fun k => congrArg (V m c main_arg2) (Shape.idx_ext₂
      ((win0_2.rect_emb_val t (ix2 (y 1) k) 0).trans (by rw [win0_5.rect_emb_val t y 1, h20]; rfl))
      ((win0_2.rect_emb_val t (ix2 (y 1) k) 1).trans (by rw [h21, Nat.zero_mul, Nat.zero_add]; rfl))))
    (congrArg (V m c main_v1) (Shape.idx_ext₂
      ((win0_1.rect_emb_val t (ix2 (y 0) 0) 0).trans (by rw [win0_5.rect_emb_val t y 0, h10]; rfl))
      ((win0_1.rect_emb_val t (ix2 (y 0) 0) 1).trans (by rw [h11, Nat.zero_mul, Nat.zero_add]; rfl))))
    (congrArg (V m c main_v2) (Shape.idx_ext₂
      ((win0_3.rect_emb_val t (ix2 0 (y 1)) 0).trans (by rw [h30, Nat.zero_mul, Nat.zero_add]; rfl))
      ((win0_3.rect_emb_val t (ix2 0 (y 1)) 1).trans (by rw [win0_5.rect_emb_val t y 1, h31]; rfl))))
    (congrArg (V m c main_v3) (Shape.idx_ext₂
      ((win0_4.rect_emb_val t (ix2 0 (y 1)) 0).trans (by rw [h40, Nat.zero_mul, Nat.zero_add]; rfl))
      ((win0_4.rect_emb_val t (ix2 0 (y 1)) 1).trans (by rw [win0_5.rect_emb_val t y 1, h41]; rfl))))

/-- Every entry of the result array lies in some grid point's block. -/
theorem cover (i : S8192x10240.Idx) : ∃ t : Fin cfg0.N, (cfg0.win 5).flush t = true ∧ i ∈ ((cfg0.win 5).blk t).view.set := by
  have h0 : (i 0 : Nat) < 8192 := (i 0).isLt
  have h1 : (i 1 : Nat) < 10240 := (i 1).isLt
  obtain ⟨t, ht0, ht1⟩ := onto ⟨(i 0 : Nat) / 2048, by omega⟩ ⟨(i 1 : Nat) / 2560, by omega⟩
  refine ⟨t, (by decide +kernel : ∀ t : Fin grid0.N, win0_5.flush t = true) t, ?_⟩
  show i ∈ ((View.whole main_v4).slice (win0_5.rect t)).set
  rw [View.set_slice_whole, Rect.mem_set_unit]
  intro a
  match a with
  | ⟨0, _⟩ =>
    show win0_5.index t 0 * 2048 ≤ (i 0 : Nat) ∧ (i 0 : Nat) < win0_5.index t 0 * 2048 + 2048
    rw [ht0]; dsimp only; omega
  | ⟨1, _⟩ =>
    show win0_5.index t 1 * 2560 ≤ (i 1 : Nat) ∧ (i 1 : Nat) < win0_5.index t 1 * 2560 + 2560
    rw [ht1]; dsimp only; omega

/-- So the result array ends holding the layer of the whole operands. -/
theorem final (c : Dev nD) : (dats m 0 c).arrAt 5 cfg0.N = whole m c :=
  (dats m 0 c).arrAt_eq_of_cover 5 (whole m c) (fun t _ => flushed_eq m c t) cover

end Cert.KernelIdeal.Lin

end
-- ==== Proof.KernelRun.lean ====
/-
  THE KERNEL'S RUN WITH ITS VALUE, over the extended reals: from any launch, the result buffer ends holding the scaled linear
  layer of the five arguments as launched, and the arguments end unchanged.
-/
module

public import proofs.«01_k».proof.Proof.KernelArray

@[expose] public section

noncomputable section

namespace Cert.KernelIdeal.Lin

open Cert.KernelIdeal Cert.KernelIdeal.Gen Idealize.ShloMosaic Idealize.ShloMosaic.ValueIdx Idealize.ShloMosaic.TcCoe
open Idealize.SL.Sem
open Idealize.ShloMosaic.StableHlo
open Cert.Linear

variable (m : (ℓ : Loc nD τ sig) → Buf (Elt Ideal) ℓ) (ρ : Dev nD → PrngReg)

/-- The scaled linear layer of device `c`'s five arguments. -/
def spec (c : Dev nD) : FVec Ideal S1x8192x10240 .bf16 :=
  layer (M := 8192) (N := 10240) (K := 2560) (m ((c : Thread nD τ).loc main_arg0)) (m ((c : Thread nD τ).loc main_arg1))
    (m ((c : Thread nD τ).loc main_arg2)) (m ((c : Thread nD τ).loc main_arg3)) (m ((c : Thread nD τ).loc main_arg4))

/-- The activations the kernel call reads are the first argument with its batch axis dropped. -/
theorem V_v0 (c : Dev nD) : V m c main_v0
    = shapeCast S8192x2560 (m ((c : Thread nD τ).loc main_arg0)) shapeCasts_S1x8192x2560_S8192x2560 := by
  unfold V V0 hostOps0
  simp only [List.flatten_cons, List.flatten_nil, List.append_nil]
  after_results
  rfl

/-- The row scales it reads are the second argument with its batch axis dropped. -/
theorem V_v1 (c : Dev nD) : V m c main_v1
    = shapeCast S8192x1 (m ((c : Thread nD τ).loc main_arg1)) shapeCasts_S1x8192x1_S8192x1 := by
  unfold V V0 hostOps0
  simp only [List.flatten_cons, List.flatten_nil, List.append_nil]
  after_results
  rfl

/-- The column scales it reads are the fourth argument reshaped to a row. -/
theorem V_v2 (c : Dev nD) : V m c main_v2
    = shapeCast S1x10240 (m ((c : Thread nD τ).loc main_arg3)) shapeCasts_S10240_S1x10240 := by
  unfold V V0 hostOps0
  simp only [List.flatten_cons, List.flatten_nil, List.append_nil]
  after_results
  rfl

/-- The bias it reads is the fifth argument reshaped to a row. -/
theorem V_v3 (c : Dev nD) : V m c main_v3
    = shapeCast S1x10240 (m ((c : Thread nD τ).loc main_arg4)) shapeCasts_S10240_S1x10240 := by
  unfold V V0 hostOps0
  simp only [List.flatten_cons, List.flatten_nil, List.append_nil]
  after_results
  rfl

/-- The layer of the operands the windows read, with the batch axis added back, is the layer of the arguments. -/
theorem whole_eq (c : Dev nD) : shapeCast S1x8192x10240 (whole m c) shapeCasts_S8192x10240_S1x8192x10240 = spec m c := by
  unfold whole spec
  rw [V_v0, V_v1, V_v2, V_v3, V_main_arg2]
  exact lin_eq_layer _ _ _ _ _ _ _ _ _ _ (fun j => row_reshape _ _ j) (fun j => row_reshape _ _ j)

/-- The result buffer after the run is the kernel call's result array with the batch axis added back. -/
theorem result_eq (c : Dev nD) :
    Pipeline.afterTail₀ cfgs (dats m) 0 (V0 m) [hostOps1] c main_v5 = spec m c := by
  unfold Pipeline.afterTail₀ hostOps1
  simp only [List.flatten_cons, List.flatten_nil, List.append_nil]
  after_results
  rw [← whole_eq, ← final]
  exact congrArg (fun f => shapeCast S1x8192x10240 f shapeCasts_S8192x10240_S1x8192x10240)
    (Pipeline.withArrays_arr _ (by decide) c (V0 m c) (fun w => (dats m 0 c).arrAt w cfg0.N) 5)

/-- The run: the result is the layer of the arguments, and the arguments end unchanged. -/
theorem run : θ_run (defs (F := Ideal)) (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono
    (fun _ h c => ⟨((h.1 c).2 main_v5 (Pipeline.mem_restRefs_of main_v5 (by decide) (by decide))).trans (result_eq m c), h.2 c⟩)
    (θ_run_and (run_main m ρ) (unchanged m ρ))

end Cert.KernelIdeal.Lin

end
-- ==== Proof.ReferenceArray.lean ====
/-
  WHAT THE REFERENCE'S RESULT ARRAY HOLDS AFTER THE RUN, over the extended reals: its one grid point loads the whole
  operands, computes the scaled linear layer of them, and stores it over the whole result.
-/
module

public import proofs.«01_k».proof.Proof.Gen.ReferenceIdeal.Frame
public import proofs.«01_k».proof.Proof.Linear

@[expose] public section

noncomputable section

namespace Cert.ReferenceIdeal.Lin

open Cert.ReferenceIdeal Cert.ReferenceIdeal.Gen Idealize.ShloMosaic Idealize.ShloMosaic.ValueIdx Idealize.ShloMosaic.TcCoe
open Idealize.SL.Sem
open Idealize.ShloMosaic.Pipeline (Dat Window)
open Cert.Linear

variable (m : (ℓ : Loc nD τ sig) → Buf (Elt Ideal) ℓ)

/-- The body's one store is the layer of the whole operands. -/
theorem block (x : FVec Ideal S8192x2560 .fp8e4m3) (xs : FVec Ideal S8192x1 .f32) (w : FVec Ideal S10240x2560 .fp8e4m3)
    (ws b : FVec Ideal S1x10240 .f32) : out0_5 (F := Ideal) x xs w ws b = lin x w xs ws b := by
  have hz : (![0, 0] : Fin 2 → Nat) = fun _ => 0 := funext fun a => by fin_cases a <;> rfl
  unfold out0_5
  rw [View.canon_unit_zero (S := S8192x10240) hz, View.ld_unit_zero (S := S8192x2560) hz, View.ld_unit_zero (S := S8192x1) hz,
    View.ld_unit_zero (S := S10240x2560) hz, View.ld_unit_zero (S := S1x10240) hz, View.ld_unit_zero (S := S1x10240) hz]
  exact ops_eq x w xs ws b shapeCasts_S8192x2560_S8192x2560 shapeCasts_S8192x1_S8192x1 shapeCasts_S1x10240_S1x10240
    shapeCasts_S1x10240_S1x10240 broadcasts_S8192x1_S8192x10240 broadcasts_S1x10240_S8192x10240
    broadcasts_S1x10240_S8192x10240 bitsLt_bf16_f32

/-- The layer of the operands that the reference's windows read on device `c`. -/
def whole (c : Dev nD) : FVec Ideal S8192x10240 .bf16 :=
  lin (M := 8192) (N := 10240) (K := 2560) (V m c main_v0) (V m c main_arg2) (V m c main_v1) (V m c main_v2) (V m c main_v3)

/-- Every window's block index is zero on both axes. -/
theorem idx (t : Fin cfg0.N) (a : Fin 2) :
    win0_0.index t a = 0 ∧ win0_1.index t a = 0 ∧ win0_2.index t a = 0 ∧ win0_3.index t a = 0 ∧ win0_4.index t a = 0
      ∧ win0_5.index t a = 0 :=
  (by decide +kernel : ∀ (t : Fin grid0.N) (a : Fin 2),
    win0_0.index t a = 0 ∧ win0_1.index t a = 0 ∧ win0_2.index t a = 0 ∧ win0_3.index t a = 0 ∧ win0_4.index t a = 0
      ∧ win0_5.index t a = 0) t a

/-- What the one grid point writes back is the layer of the whole operands. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  have h0 := fun a => (idx t a).1
  have h1 := fun a => (idx t a).2.1
  have h2 := fun a => (idx t a).2.2.1
  have h3 := fun a => (idx t a).2.2.2.1
  have h4 := fun a => (idx t a).2.2.2.2.1
  have h5 := fun a => (idx t a).2.2.2.2.2
  funext y
  show out0_5 (F := Ideal) (iblk m c 0 t) (iblk m c 1 t) (iblk m c 2 t) (iblk m c 3 t) (iblk m c 4 t) y
    = whole m c ((win0_5.rect t).emb y)
  rw [block]
  have e0 := win0_5.rect_emb_val_of_index_zero t 0 (h5 0) y
  have e1 := win0_5.rect_emb_val_of_index_zero t 1 (h5 1) y
  exact lin_congr (M := 8192) (N := 10240) _ _ _ _ _ _ _ _ _ _ y ((win0_5.rect t).emb y)
    (fun k => congrArg (V m c main_v0) (Shape.idx_ext₂
      ((win0_0.rect_emb_val_of_index_zero t 0 (h0 0) (ix2 (y 0) k)).trans e0.symm)
      (win0_0.rect_emb_val_of_index_zero t 1 (h0 1) (ix2 (y 0) k))))
    (fun k => congrArg (V m c main_arg2) (Shape.idx_ext₂
      ((win0_2.rect_emb_val_of_index_zero t 0 (h2 0) (ix2 (y 1) k)).trans e1.symm)
      (win0_2.rect_emb_val_of_index_zero t 1 (h2 1) (ix2 (y 1) k))))
    (congrArg (V m c main_v1) (Shape.idx_ext₂
      ((win0_1.rect_emb_val_of_index_zero t 0 (h1 0) (ix2 (y 0) 0)).trans e0.symm)
      (win0_1.rect_emb_val_of_index_zero t 1 (h1 1) (ix2 (y 0) 0))))
    (congrArg (V m c main_v2) (Shape.idx_ext₂
      (win0_3.rect_emb_val_of_index_zero t 0 (h3 0) (ix2 0 (y 1)))
      ((win0_3.rect_emb_val_of_index_zero t 1 (h3 1) (ix2 0 (y 1))).trans e1.symm)))
    (congrArg (V m c main_v3) (Shape.idx_ext₂
      (win0_4.rect_emb_val_of_index_zero t 0 (h4 0) (ix2 0 (y 1)))
      ((win0_4.rect_emb_val_of_index_zero t 1 (h4 1) (ix2 0 (y 1))).trans e1.symm)))

/-- Every entry of the result array lies in the one block. -/
theorem cover (i : S8192x10240.Idx) : ∃ t : Fin cfg0.N, (cfg0.win 5).flush t = true ∧ i ∈ ((cfg0.win 5).blk t).view.set := by
  have h0 : (i 0 : Nat) < 8192 := (i 0).isLt
  have h1 : (i 1 : Nat) < 10240 := (i 1).isLt
  let t : Fin cfg0.N := ⟨0, by decide⟩
  refine ⟨t, (by decide +kernel : ∀ t : Fin grid0.N, win0_5.flush t = true) t, ?_⟩
  show i ∈ ((View.whole main_v4).slice (win0_5.rect t)).set
  rw [View.set_slice_whole, Rect.mem_set_unit]
  intro a
  match a with
  | ⟨0, _⟩ =>
    show 0 * 8192 ≤ (i 0 : Nat) ∧ (i 0 : Nat) < 0 * 8192 + 8192
    omega
  | ⟨1, _⟩ =>
    show 0 * 10240 ≤ (i 1 : Nat) ∧ (i 1 : Nat) < 0 * 10240 + 10240
    omega

/-- So the result array ends holding the layer of the whole operands. -/
theorem final (c : Dev nD) : (dats m 0 c).arrAt 5 cfg0.N = whole m c :=
  (dats m 0 c).arrAt_eq_of_cover 5 (whole m c) (fun t _ => flushed_eq m c t) cover

end Cert.ReferenceIdeal.Lin

end
-- ==== Proof.ReferenceRun.lean ====
/-
  THE REFERENCE'S RUN WITH ITS VALUE, over the extended reals: from any launch, the result buffer ends holding the scaled linear
  layer of the five arguments as launched, and the arguments end unchanged.
-/
module

public import proofs.«01_k».proof.Proof.ReferenceArray

@[expose] public section

noncomputable section

namespace Cert.ReferenceIdeal.Lin

open Cert.ReferenceIdeal Cert.ReferenceIdeal.Gen Idealize.ShloMosaic Idealize.ShloMosaic.ValueIdx Idealize.ShloMosaic.TcCoe
open Idealize.SL.Sem
open Idealize.ShloMosaic.StableHlo
open Cert.Linear

variable (m : (ℓ : Loc nD τ sig) → Buf (Elt Ideal) ℓ) (ρ : Dev nD → PrngReg)

/-- The scaled linear layer of device `c`'s five arguments. -/
def spec (c : Dev nD) : FVec Ideal S1x8192x10240 .bf16 :=
  layer (M := 8192) (N := 10240) (K := 2560) (m ((c : Thread nD τ).loc main_arg0)) (m ((c : Thread nD τ).loc main_arg1))
    (m ((c : Thread nD τ).loc main_arg2)) (m ((c : Thread nD τ).loc main_arg3)) (m ((c : Thread nD τ).loc main_arg4))

/-- The activations the kernel call reads are the first argument with its batch axis dropped. -/
theorem V_v0 (c : Dev nD) : V m c main_v0
    = shapeCast S8192x2560 (m ((c : Thread nD τ).loc main_arg0)) shapeCasts_S1x8192x2560_S8192x2560 := by
  unfold V V0 hostOps0
  simp only [List.flatten_cons, List.flatten_nil, List.append_nil]
  after_results
  rfl

/-- The row scales it reads are the second argument with its batch axis dropped. -/
theorem V_v1 (c : Dev nD) : V m c main_v1
    = shapeCast S8192x1 (m ((c : Thread nD τ).loc main_arg1)) shapeCasts_S1x8192x1_S8192x1 := by
  unfold V V0 hostOps0
  simp only [List.flatten_cons, List.flatten_nil, List.append_nil]
  after_results
  rfl

/-- The column scales it reads are the fourth argument broadcast to a row. -/
theorem V_v2 (c : Dev nD) : V m c main_v2
    = broadcastInDim S1x10240 ![1] bcast_S10240_S1x10240_1 (m ((c : Thread nD τ).loc main_arg3)) := by
  unfold V V0 hostOps0
  simp only [List.flatten_cons, List.flatten_nil, List.append_nil]
  after_results

/-- The bias it reads is the fifth argument broadcast to a row. -/
theorem V_v3 (c : Dev nD) : V m c main_v3
    = broadcastInDim S1x10240 ![1] bcast_S10240_S1x10240_1 (m ((c : Thread nD τ).loc main_arg4)) := by
  unfold V V0 hostOps0
  simp only [List.flatten_cons, List.flatten_nil, List.append_nil]
  after_results

/-- The layer of the operands the windows read, with the batch axis added back, is the layer of the arguments. -/
theorem whole_eq (c : Dev nD) : shapeCast S1x8192x10240 (whole m c) shapeCasts_S8192x10240_S1x8192x10240 = spec m c := by
  unfold whole spec
  rw [V_v0, V_v1, V_v2, V_v3, V_main_arg2]
  exact lin_eq_layer _ _ _ _ _ _ _ _ _ _ (fun j => row_broadcast _ _ j) (fun j => row_broadcast _ _ j)

/-- The result buffer after the run is the kernel call's result array with the batch axis added back. -/
theorem result_eq (c : Dev nD) :
    Pipeline.afterTail₀ cfgs (dats m) 0 (V0 m) [hostOps1] c main_v5 = spec m c := by
  unfold Pipeline.afterTail₀ hostOps1
  simp only [List.flatten_cons, List.flatten_nil, List.append_nil]
  after_results
  rw [← whole_eq, ← final]
  exact congrArg (fun f => shapeCast S1x8192x10240 f shapeCasts_S8192x10240_S1x8192x10240)
    (Pipeline.withArrays_arr _ (by decide) c (V0 m c) (fun w => (dats m 0 c).arrAt w cfg0.N) 5)

/-- The run: the result is the layer of the arguments, and the arguments end unchanged. -/
theorem run : θ_run (defs (F := Ideal)) (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono
    (fun _ h c => ⟨((h.1 c).2 main_v5 (Pipeline.mem_restRefs_of main_v5 (by decide) (by decide))).trans (result_eq m c), h.2 c⟩)
    (θ_run_and (run_main m ρ) (unchanged m ρ))

end Cert.ReferenceIdeal.Lin

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

/-- Launched with the same arguments, the two programs have the same layer to compute. -/
theorem spec_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Lin.spec m' c = Cert.KernelIdeal.Lin.spec m c := by
  unfold Cert.ReferenceIdeal.Lin.spec Cert.KernelIdeal.Lin.spec
  rw [h0, h1, h2, h3, h4]

/-- The kernel computes what the reference computes, over the extended reals: both result buffers end holding the scaled
    linear layer of the arguments. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => Cert.KernelIdeal.Lin.spec m c, Cert.KernelIdeal.Lin.run m g,
    (θ_run (Cert.ReferenceIdeal.defs (F := Ideal)) _ _).mono
      (fun _ h c => ⟨(h c).1.trans (spec_eq m m' c (hargs c).1 (hargs c).2.1 (hargs c).2.2.1 (hargs c).2.2.2.1 (hargs c).2.2.2.2),
        (h c).2⟩)
      (Cert.ReferenceIdeal.Lin.run m' g')⟩

/-- The certificate: each of the three programs runs to its end with its arguments unchanged and its semaphore counters
    at zero; the rewriting to the ideal program changed nothing; and the ideal kernel computes the ideal reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
